-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x12288 : Shape := ⟨3, ![1, 16384, 12288]⟩
abbrev S1x512x384 : Shape := ⟨3, ![1, 512, 384]⟩
abbrev S3072x12288 : Shape := ⟨2, ![3072, 12288]⟩
abbrev S96x384 : Shape := ⟨2, ![96, 384]⟩
abbrev S1x512x384x32 : Shape := ⟨4, ![1, 512, 384, 32]⟩
abbrev S1x512x12288 : Shape := ⟨3, ![1, 512, 12288]⟩
abbrev S512x12288 : Shape := ⟨2, ![512, 12288]⟩
abbrev S96x384x32 : Shape := ⟨3, ![96, 384, 32]⟩
abbrev S96x12288 : Shape := ⟨2, ![96, 12288]⟩
abbrev S16384x12288 : Shape := ⟨2, ![16384, 12288]⟩
abbrev S16384x3072 : Shape := ⟨2, ![16384, 3072]⟩
abbrev S512x3072 : Shape := ⟨2, ![512, 3072]⟩
abbrev S16x12288 : Shape := ⟨2, ![16, 12288]⟩
abbrev S512x512 : Shape := ⟨2, ![512, 512]⟩
abbrev S16x512 : Shape := ⟨2, ![16, 512]⟩
abbrev S512x1024 : Shape := ⟨2, ![512, 1024]⟩
abbrev S16x1024 : Shape := ⟨2, ![16, 1024]⟩
abbrev S16x1x1024 : Shape := ⟨3, ![16, 1, 1024]⟩
abbrev S16x32x1024 : Shape := ⟨3, ![16, 32, 1024]⟩
abbrev S16x32x512 : Shape := ⟨3, ![16, 32, 512]⟩
abbrev S16x128 : Shape := ⟨2, ![16, 128]⟩
abbrev S16x128x1 : Shape := ⟨3, ![16, 128, 1]⟩
abbrev S16x1x512 : Shape := ⟨3, ![16, 1, 512]⟩
abbrev S1x16384x3072 : Shape := ⟨3, ![1, 16384, 3072]⟩
abbrev S512x96 : Shape := ⟨2, ![512, 96]⟩
abbrev S1x512x96 : Shape := ⟨3, ![1, 512, 96]⟩

abbrev nBuf : Space → Nat
  | .hbm => 17
  | .vmem => 14
  | .smem => 0
  | _ => 0

abbrev bufTy : (tb : Table) → Fin (tcTables nBuf tb) → BufTy
  | .hbm, ⟨0, _⟩ => ⟨S1x16384x12288, .i8⟩
  | .hbm, ⟨1, _⟩ => ⟨S1x512x384, .f32⟩
  | .hbm, ⟨2, _⟩ => ⟨S3072x12288, .i8⟩
  | .hbm, ⟨3, _⟩ => ⟨S96x384, .f32⟩
  | .hbm, ⟨4, _⟩ => ⟨S1x512x384, .bf16⟩
  | .hbm, ⟨5, _⟩ => ⟨S1x512x384x32, .bf16⟩
  | .hbm, ⟨6, _⟩ => ⟨S1x512x12288, .bf16⟩
  | .hbm, ⟨7, _⟩ => ⟨S512x12288, .bf16⟩
  | .hbm, ⟨8, _⟩ => ⟨S96x384, .bf16⟩
  | .hbm, ⟨9, _⟩ => ⟨S96x384x32, .bf16⟩
  | .hbm, ⟨10, _⟩ => ⟨S96x12288, .bf16⟩
  | .hbm, ⟨11, _⟩ => ⟨S16384x12288, .i8⟩
  | .hbm, ⟨12, _⟩ => ⟨S16384x3072, .i8⟩
  | .hbm, ⟨13, _⟩ => ⟨S512x3072, .f32⟩
  | .hbm, ⟨14, _⟩ => ⟨S1x16384x3072, .i8⟩
  | .hbm, ⟨15, _⟩ => ⟨S512x96, .f32⟩
  | .hbm, ⟨16, _⟩ => ⟨S1x512x96, .f32⟩
  | .local _ .vmem, ⟨0, _⟩ => ⟨S512x12288, .i8⟩
  | .local _ .vmem, ⟨1, _⟩ => ⟨S512x12288, .i8⟩
  | .local _ .vmem, ⟨2, _⟩ => ⟨S16x12288, .bf16⟩
  | .local _ .vmem, ⟨3, _⟩ => ⟨S16x12288, .bf16⟩
  | .local _ .vmem, ⟨4, _⟩ => ⟨S512x12288, .i8⟩
  | .local _ .vmem, ⟨5, _⟩ => ⟨S512x12288, .i8⟩
  | .local _ .vmem, ⟨6, _⟩ => ⟨S16x12288, .bf16⟩
  | .local _ .vmem, ⟨7, _⟩ => ⟨S16x12288, .bf16⟩
  | .local _ .vmem, ⟨8, _⟩ => ⟨S512x512, .i8⟩
  | .local _ .vmem, ⟨9, _⟩ => ⟨S512x512, .i8⟩
  | .local _ .vmem, ⟨10, _⟩ => ⟨S16x512, .f32⟩
  | .local _ .vmem, ⟨11, _⟩ => ⟨S16x512, .f32⟩
  | .local _ .vmem, ⟨12, _⟩ => ⟨S512x12288, .bf16⟩
  | .local _ .vmem, ⟨13, _⟩ => ⟨S512x12288, .bf16⟩
  | _, _ => ⟨S1x16384x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x12288 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x12288 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x12288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x16384x12288 : Shape := ⟨3, ![1, 16384, 12288]⟩
abbrev S1x512x384 : Shape := ⟨3, ![1, 512, 384]⟩
abbrev S3072x12288 : Shape := ⟨2, ![3072, 12288]⟩
abbrev S96x384 : Shape := ⟨2, ![96, 384]⟩
abbrev S1x16384x3072 : Shape := ⟨3, ![1, 16384, 3072]⟩
abbrev S1x512x96 : Shape := ⟨3, ![1, 512, 96]⟩
abbrev S1x512x384x1 : Shape := ⟨4, ![1, 512, 384, 1]⟩
abbrev S1x512x384x32 : Shape := ⟨4, ![1, 512, 384, 32]⟩
abbrev S1x512x12288 : Shape := ⟨3, ![1, 512, 12288]⟩
abbrev S96x384x1 : Shape := ⟨3, ![96, 384, 1]⟩
abbrev S96x384x32 : Shape := ⟨3, ![96, 384, 32]⟩
abbrev S96x12288 : Shape := ⟨2, ![96, 12288]⟩
abbrev S1x512x32x12288 : Shape := ⟨4, ![1, 512, 32, 12288]⟩
abbrev S1x512x1x12288 : Shape := ⟨4, ![1, 512, 1, 12288]⟩
abbrev S96x32x12288 : Shape := ⟨3, ![96, 32, 12288]⟩
abbrev S96x1x12288 : Shape := ⟨3, ![96, 1, 12288]⟩
abbrev S1x512x32x3072 : Shape := ⟨4, ![1, 512, 32, 3072]⟩
abbrev S1x512x3072 : Shape := ⟨3, ![1, 512, 3072]⟩
abbrev S1x512x96x32 : Shape := ⟨4, ![1, 512, 96, 32]⟩
abbrev S1x512x96x1 : Shape := ⟨4, ![1, 512, 96, 1]⟩
abbrev S1x512x1x3072 : Shape := ⟨4, ![1, 512, 1, 3072]⟩

abbrev nBuf : Space → Nat
  | .hbm => 6
  | .vmem => 6
  | .smem => 0
  | _ => 0

abbrev bufTy : (tb : Table) → Fin (tcTables nBuf tb) → BufTy
  | .hbm, ⟨0, _⟩ => ⟨S1x16384x12288, .i8⟩
  | .hbm, ⟨1, _⟩ => ⟨S1x512x384, .f32⟩
  | .hbm, ⟨2, _⟩ => ⟨S3072x12288, .i8⟩
  | .hbm, ⟨3, _⟩ => ⟨S96x384, .f32⟩
  | .hbm, ⟨4, _⟩ => ⟨S1x16384x3072, .i8⟩
  | .hbm, ⟨5, _⟩ => ⟨S1x512x96, .f32⟩
  | .local _ .vmem, ⟨0, _⟩ => ⟨S1x16384x12288, .i8⟩
  | .local _ .vmem, ⟨1, _⟩ => ⟨S1x512x384, .f32⟩
  | .local _ .vmem, ⟨2, _⟩ => ⟨S3072x12288, .i8⟩
  | .local _ .vmem, ⟨3, _⟩ => ⟨S96x384, .f32⟩
  | .local _ .vmem, ⟨4, _⟩ => ⟨S1x16384x3072, .i8⟩
  | .local _ .vmem, ⟨5, _⟩ => ⟨S1x512x96, .f32⟩
  | _, _ => ⟨S1x16384x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x16384x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quant.lean ====
module

public import Idealize.ShloMosaic.Lib.Pointwise
public import Idealize.ShloMosaic.Lib.Pipeline.ValueKit

@[expose] public section

set_option maxRecDepth 16384

noncomputable section

namespace Cert.Quant

open Idealize.ShloMosaic Idealize.ShloMosaic.TcCoe Idealize.ShloMosaic.Tactic

/-! The quantized linear layer as plain functions of the four arguments, over the extended reals: the product of the two
    dequantized matrices, the greatest magnitude of a 32 × 32 tile of it, the tile's scale, and the int8 codes. -/

/-- The activations' codes. -/
abbrev XCodes := Vec Ideal ⟨3, ![1, 16384, 12288]⟩ .i8
/-- The activations' scales, one per tile of 32 tokens by 32 features. -/
abbrev XScales := Vec Ideal ⟨3, ![1, 512, 384]⟩ .f32
/-- The weights' codes. -/
abbrev WCodes := Vec Ideal ⟨2, ![3072, 12288]⟩ .i8
/-- The weights' scales, one per tile of 32 outputs by 32 features. -/
abbrev WScales := Vec Ideal ⟨2, ![96, 384]⟩ .f32

variable (x : XCodes) (sx : XScales) (w : WCodes) (sw : WScales)

/-- A dequantized activation: token `R`, feature `k`. -/
def xDeq (R : Fin 16384) (k : Fin 12288) : EReal :=
  FloatOps.sitofp (F := Ideal) .bf16 (x (ix3 0 R k)) * sx (ix3 0 ⟨R.val / 32, by omega⟩ ⟨k.val / 32, by omega⟩)

/-- A dequantized weight: output `C`, feature `k`. -/
def wDeq (C : Fin 3072) (k : Fin 12288) : EReal :=
  FloatOps.sitofp (F := Ideal) .bf16 (w (ix2 C k)) * sw (ix2 ⟨C.val / 32, by omega⟩ ⟨k.val / 32, by omega⟩)

/-- The layer's output before it is quantized: token `R`, output `C`. -/
def prod (R : Fin 16384) (C : Fin 3072) : EReal := ∑ k : Fin 12288, xDeq x sx R k * wDeq w sw C k

/-- The greatest magnitude of the 32 × 32 tile `(G, N)` of the output. -/
def tileMax (G : Fin 512) (N : Fin 96) : EReal :=
  Finset.fold max (Ideal.ofBits .f32 0xFF800000#32) (fun p : Fin 32 =>
    Finset.fold max (Ideal.ofBits .f32 0xFF800000#32) (fun q : Fin 32 =>
      FloatOps.absf (F := Ideal) (φ := .f32) (prod x sx w sw ⟨G.val * 32 + q.val, by omega⟩ ⟨N.val * 32 + p.val, by omega⟩)) Finset.univ) Finset.univ

/-- The scale of a tile of greatest magnitude `a`: 1 when `a` is zero, else `a / 127`. -/
def scaleOf (a : EReal) : EReal := if a = 0 then 1 else Ideal.div a (Ideal.ofBits .f32 1123942400#32)

/-- The code of `y` at scale `s`: the quotient rounded to an integer, halves to even, and clipped to −127 … 127. -/
def codeOf (y s : EReal) : BitVec 8 :=
  FloatOps.fptosi (F := Ideal) (φ := .f32) 8
    (min ((((127#32 : BitVec 32).toInt : ℝ) : EReal)) (max ((((4294967169#32 : BitVec 32).toInt : ℝ) : EReal))
      (Ideal.liftRound Ideal.roundHalfEven (Ideal.div y s))))

/-- The scale of the tile `(G, N)` of the output. -/
def outScale (G : Fin 512) (N : Fin 96) : EReal := scaleOf (tileMax x sx w sw G N)

/-- The code of the output at token `R`, output `C`: against the scale of its tile. -/
def outCode (R : Fin 16384) (C : Fin 3072) : BitVec 8 :=
  codeOf (prod x sx w sw R C) (outScale x sx w sw ⟨R.val / 32, by omega⟩ ⟨C.val / 32, by omega⟩)

/-- The tile maximum by its upper bounds. -/
theorem tileMax_le (G : Fin 512) (N : Fin 96) (a : EReal) : tileMax x sx w sw G N ≤ a ↔
    Ideal.ofBits .f32 0xFF800000#32 ≤ a ∧ ∀ p q : Fin 32,
      FloatOps.absf (F := Ideal) (φ := .f32) (prod x sx w sw ⟨G.val * 32 + q.val, by omega⟩ ⟨N.val * 32 + p.val, by omega⟩) ≤ a := by
  unfold tileMax
  rw [Finset.fold_max_le]
  simp only [Finset.fold_max_le, Finset.mem_univ, true_implies]
  constructor
  · exact fun h => ⟨h.1, fun p q => (h.2 p).2 q⟩
  · exact fun h => ⟨h.1, fun p => ⟨h.1, h.2 p⟩⟩

end Cert.Quant

end
-- ==== Proof.RefValue.lean ====
module

public import proofs.«01_k».proof.Proof.Gen.ReferenceIdeal.Value
public import proofs.«01_k».proof.Proof.Quant
public import Idealize.ShloMosaic.Lib.Pointwise
public import Idealize.ShloMosaic.Lib.Pipeline.ValueKit

@[expose] public section

set_option maxRecDepth 16384

noncomputable section

namespace Cert.ReferenceIdeal.Val

open Idealize.ShloMosaic Idealize.ShloMosaic.TcCoe Idealize.ShloMosaic.Tactic Cert.ReferenceIdeal Cert.ReferenceIdeal.Gen

open Cert.Quant

variable (x : XCodes) (sx : XScales) (w : WCodes) (sw : WScales)

/-- The reference's product, at an index. -/
theorem pay2_at (G : Fin 512) (q : Fin 32) (C : Fin 3072) :
    k0_pay2 (F := Ideal) sx sw x w (ix4 0 G q C) = prod x sx w sw ⟨G.val * 32 + q.val, by omega⟩ C := by
  have hG : (⟨(G.val * 32 + q.val) / 32, by omega⟩ : Fin 512) = G := Fin.ext (by show (G.val * 32 + q.val) / 32 = G.val; omega)
  have hx (k : Fin 12288) : xDeq x sx ⟨G.val * 32 + q.val, by omega⟩ k
      = FloatOps.sitofp (F := Ideal) .bf16 (x (ix3 0 ⟨G.val * 32 + q.val, by omega⟩ k)) * sx (ix3 0 G ⟨k.val / 32, by omega⟩) := by
    unfold xDeq
    rw [hG]
  unfold prod
  simp only [hx]
  unfold wDeq
  pointwise [k0_pay2]

/-- The maxima over the rows of the 32-row groups. -/
theorem rowMax_at (v : FVec Ideal S1x512x32x3072 .f32) (G : Fin 512) (C : Fin 3072) :
    multiReduction .maximumf [2] S1x512x3072 v 0xFF800000#32 reduces_S1x512x32x3072_S1x512x3072 (.inl rfl) rfl (ix3 0 G C)
      = Finset.fold max (Ideal.ofBits .f32 0xFF800000#32) (fun q : Fin 32 => v (ix4 0 G q C)) Finset.univ := by
  pointwise

/-- The maxima over the columns of the 32-column groups. -/
theorem colMax_at (v : FVec Ideal S1x512x96x32 .f32) (G : Fin 512) (N : Fin 96) :
    multiReduction .maximumf [3] S1x512x96 v 0xFF800000#32 reduces_S1x512x96x32_S1x512x96 (.inl rfl) rfl (ix3 0 G N)
      = Finset.fold max (Ideal.ofBits .f32 0xFF800000#32) (fun p : Fin 32 => v (ix4 0 G N p)) Finset.univ := by
  pointwise

/-- The columns in groups of 32. -/
theorem split_at (v : FVec Ideal S1x512x3072 .f32) (G : Fin 512) (N : Fin 96) (p : Fin 32) :
    shapeCast S1x512x96x32 v shapeCasts_S1x512x3072_S1x512x96x32 (ix4 0 G N p) = v (ix3 0 G ⟨N.val * 32 + p.val, by omega⟩) := by
  pointwise

/-- A tile's greatest magnitude: the maxima over its columns of the maxima over its rows. -/
theorem tileMax_at (y : FVec Ideal S1x512x32x3072 .f32) (G : Fin 512) (N : Fin 96) :
    multiReduction .maximumf [3] S1x512x96 (shapeCast S1x512x96x32 (multiReduction .maximumf [2] S1x512x3072 (absf y) 0xFF800000#32
        reduces_S1x512x32x3072_S1x512x3072 (.inl rfl) rfl) shapeCasts_S1x512x3072_S1x512x96x32) 0xFF800000#32
        reduces_S1x512x96x32_S1x512x96 (.inl rfl) rfl (ix3 0 G N)
      = Finset.fold max (Ideal.ofBits .f32 0xFF800000#32) (fun p : Fin 32 => Finset.fold max (Ideal.ofBits .f32 0xFF800000#32)
        (fun q : Fin 32 => FloatOps.absf (F := Ideal) (φ := .f32) (y (ix4 0 G q ⟨N.val * 32 + p.val, by omega⟩))) Finset.univ) Finset.univ := by
  rw [colMax_at]
  simp only [split_at]
  exact congrArg (fun f : Fin 32 → EReal => Finset.fold max (Ideal.ofBits .f32 0xFF800000#32) f Finset.univ)
    (funext fun p => rowMax_at (absf y) G ⟨N.val * 32 + p.val, by omega⟩)

/-- The scale of a tile from its greatest magnitude. -/
theorem scaleOf_at (a : FVec Ideal S1x512x96 .f32) (G : Fin 512) (N : Fin 96) :
    select (cmpf .oeq a (broadcast S1x512x96 (Scalar.ofBits (F := Ideal) .f32 0x00000000#32)))
      (broadcast S1x512x96 (Scalar.ofBits (F := Ideal) .f32 0x3F800000#32))
      (divf a (broadcast S1x512x96 (Scalar.ofBits (F := Ideal) .f32 0x42FE0000#32))) (ix3 0 G N) = scaleOf (a (ix3 0 G N)) := by
  pointwise [scaleOf]

/-- The reference's scales, at an index. -/
theorem scale_at (G : Fin 512) (N : Fin 96) : k0_pay3 (F := Ideal) sx sw x w (ix3 0 G N) = outScale x sx w sw G N := by
  unfold outScale tileMax
  simp only [← pay2_at]
  unfold k0_pay3
  generalize k0_pay2 (F := Ideal) sx sw x w = y
  rw [← tileMax_at y G N]
  exact scaleOf_at _ G N

/-- The scales repeated over their tiles' entries. -/
theorem spread_at (s : FVec Ideal S1x512x96 .f32) (G : Fin 512) (q : Fin 32) (C : Fin 3072) :
    broadcastTo S1x512x32x3072 (shapeCast S1x512x1x3072 (shapeCast S1x512x3072 (broadcastTo S1x512x96x32
        (shapeCast S1x512x96x1 s shapeCasts_S1x512x96_S1x512x96x1) broadcasts_S1x512x96x1_S1x512x96x32)
        shapeCasts_S1x512x96x32_S1x512x3072) shapeCasts_S1x512x3072_S1x512x1x3072) broadcasts_S1x512x1x3072_S1x512x32x3072 (ix4 0 G q C)
      = s (ix3 0 G ⟨C.val / 32, by omega⟩) := by
  pointwise

/-- The clipped and converted codes, the row groups joined. -/
theorem clip_at (v : FVec Ideal S1x512x32x3072 .f32) (R : Fin 16384) (C : Fin 3072) :
    k0_pay1 (F := Ideal) v 4294967169#32 (ix3 0 R C) = FloatOps.fptosi (F := Ideal) (φ := .f32) 8
      (min ((((127#32 : BitVec 32).toInt : ℝ) : EReal)) (max ((((4294967169#32 : BitVec 32).toInt : ℝ) : EReal))
        (v (ix4 0 ⟨R.val / 32, by omega⟩ ⟨R.val % 32, by omega⟩ C)))) := by
  pointwise [k0_pay1]

/-- A rounded quotient at an index. -/
theorem round_at (y s : FVec Ideal S1x512x32x3072 .f32) (i : S1x512x32x3072.Idx) :
    roundeven (divf y s) i = Ideal.liftRound Ideal.roundHalfEven (Ideal.div (y i) (s i)) := rfl

/-- The reference's codes, at an index. -/
theorem code_at (R : Fin 16384) (C : Fin 3072) :
    k0_pay1 (F := Ideal) (k0_pay4 sx sw x w) 4294967169#32 (ix3 0 R C) = outCode x sx w sw R C := by
  have h : prod x sx w sw R C = k0_pay2 (F := Ideal) sx sw x w (ix4 0 ⟨R.val / 32, by omega⟩ ⟨R.val % 32, by omega⟩ C) := by
    rw [pay2_at]
    exact congrArg (fun R => prod x sx w sw R C) (Fin.ext (by show R.val = R.val / 32 * 32 + R.val % 32; omega))
  unfold outCode codeOf
  rw [h, ← scale_at, clip_at]
  unfold k0_pay4
  generalize k0_pay2 (F := Ideal) sx sw x w = y
  generalize k0_pay3 (F := Ideal) sx sw x w = s
  rw [round_at, spread_at]

end Cert.ReferenceIdeal.Val

end
-- ==== Proof.Dequant.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen

/-- A block of int8 values times their per-row-group scales: entry `(r, k)` is the integer at `(r, k)`, as a number,
    times the scale at `(r / 32, k)`. -/
def deq (x : Vec Ideal S512x12288 .i8) (s : Vec Ideal S16x12288 .bf16) : Vec Ideal S512x12288 .bf16 := fun i =>
  FloatOps.sitofp (F := Ideal) .bf16 (x (ix2 (i 0) (i 1))) * s (ix2 ⟨(i 0).val / 32, by have : (i 0).val < 512 := (i 0).isLt; omega⟩ (i 1))

/-- One tile's payload at an index: the integer times the scale of its row group. -/
theorem pay3_at (x : Vec Ideal S512x1024 .i8) (s : Vec Ideal S16x1024 .bf16) (r : Fin 512) (k : Fin 1024) :
    k0_pay3 (F := Ideal) x s (ix2 r k) = FloatOps.sitofp (F := Ideal) .bf16 (x (ix2 r k)) * s (ix2 ⟨r.val / 32, by omega⟩ k) := by
  pointwise [k0_pay3]

/-- The tile at column offset `o` stores the columns `o … o + 1023` of `deq`. -/
theorem tile_at (x : Vec Ideal S512x12288 .i8) (s : Vec Ideal S16x12288 .bf16) (o : ℕ)
    (h : ∀ a, (![0, o] : Fin 2 → ℕ) a + (![512, 1024] : Fin 2 → ℕ) a ≤ S512x12288.size a)
    (h' : ∀ a, (![0, o] : Fin 2 → ℕ) a + (![16, 1024] : Fin 2 → ℕ) a ≤ S16x12288.size a)
    (y : S512x1024.Idx) :
    k0_pay3 (F := Ideal) (View.ld x (Rect.unit ![0, o] ![512, 1024] h)) (View.ld s (Rect.unit ![0, o] ![16, 1024] h')) y
      = deq x s ((Rect.unit (s := S512x12288) ![0, o] ![512, 1024] h).emb y) := by
  idx_vars y
  rw [pay3_at]
  unfold deq
  have hx : View.ld x (Rect.unit ![0, o] ![512, 1024] h) (ix2 y0 y1) = x (ix2 ((Rect.unit (s := S512x12288) ![0, o] ![512, 1024] h).emb (ix2 y0 y1) 0)
      ((Rect.unit (s := S512x12288) ![0, o] ![512, 1024] h).emb (ix2 y0 y1) 1)) := by
    change x ((Rect.unit (s := S512x12288) ![0, o] ![512, 1024] h).emb (ix2 y0 y1)) = _
    exact congrArg x (funext fun a => by fin_cases a <;> rfl)
  have hs : View.ld s (Rect.unit ![0, o] ![16, 1024] h') (ix2 ⟨y0.val / 32, by omega⟩ y1) = s (ix2 ⟨((Rect.unit (s := S512x12288) ![0, o] ![512, 1024] h).emb (ix2 y0 y1) 0).val / 32, by
      have := ((Rect.unit (s := S512x12288) ![0, o] ![512, 1024] h).emb (ix2 y0 y1) 0).isLt; change _ < 512 at this; omega⟩
      ((Rect.unit (s := S512x12288) ![0, o] ![512, 1024] h).emb (ix2 y0 y1) 1)) := by
    change s ((Rect.unit (s := S16x12288) ![0, o] ![16, 1024] h').emb (ix2 ⟨y0.val / 32, by omega⟩ y1)) = _
    refine congrArg s (funext fun a => ?_)
    fin_cases a
    · refine Fin.ext ?_
      change 0 + 1 * (y0.val / 32) = (0 + 1 * y0.val) / 32
      omega
    · rfl
  exact congrArg₂ (fun a b : EReal => a * b) (congrArg (FloatOps.sitofp (F := Ideal) .bf16) hx) hs

end Cert.KernelIdeal.Val

end
-- ==== Proof.PointValue.lean ====
module

public import proofs.«01_k».proof.Proof.Dequant
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Val

open Idealize.ShloMosaic Idealize.ShloMosaic.TcCoe Idealize.ShloMosaic.Tactic Cert.KernelIdeal Cert.KernelIdeal.Gen

/-- Twelve tile stores that tile the scratch, each storing its columns of `deq x s`, leave `deq x s`. -/
theorem canon_deq (x : Vec Ideal S512x12288 .i8) (s : Vec Ideal S16x12288 .bf16)
    (L : List (View.Piece (Elt Ideal) S512x12288 .bf16))
    (hL : L.Forall fun p => ∀ y : p.1.shape.Idx, p.2 y = deq x s (p.1.emb y))
    (hc : View.Piece.tiledL L S512x1024.size = true) : View.canon L = deq x s :=
  funext fun y => View.canon_apply_of_pieces (deq x s) L (fun p hp => List.forall_iff_forall_mem.mp hL p hp) y
    (View.cover_of_tiledL L S512x1024.size hc y)

/-- Reading the whole scratch after such stores gives `deq x s`. -/
theorem readCov_deq (x : Vec Ideal S512x12288 .i8) (s : Vec Ideal S16x12288 .bf16) {sig : RefSig} {κ : Kind} {sp : Space}
    (v : View sig κ sp S512x12288 .bf16) (L : List (View.Piece (Elt Ideal) S512x12288 .bf16))
    (inb : ∀ a, (![0, 0] : Fin 2 → ℕ) a + (![512, 12288] : Fin 2 → ℕ) a ≤ S512x12288.size a)
    (hL : L.Forall fun p => ∀ y : p.1.shape.Idx, p.2 y = deq x s (p.1.emb y))
    (hc : View.Piece.tiledL L S512x1024.size = true) :
    v.readCov L (Rect.unit ![0, 0] ![512, 12288] inb).toLoadRect = deq x s := by
  rw [View.readCov_eq_canon_ld v L _ (View.cover_of_tiledL L S512x1024.size hc), canon_deq x s L hL hc,
    View.ld_unit_lit inb (deq x s) (by decide)]

/-- The data tile of column block 1 is computed as the first one. -/
theorem pay4_eq : @k0_pay4 Ideal _ = k0_pay3 := rfl
/-- The data tile of column block 2 is computed as the first one. -/
theorem pay5_eq : @k0_pay5 Ideal _ = k0_pay3 := rfl
/-- The data tile of column block 3 is computed as the first one. -/
theorem pay6_eq : @k0_pay6 Ideal _ = k0_pay3 := rfl
/-- The data tile of column block 4 is computed as the first one. -/
theorem pay7_eq : @k0_pay7 Ideal _ = k0_pay3 := rfl
/-- The data tile of column block 5 is computed as the first one. -/
theorem pay8_eq : @k0_pay8 Ideal _ = k0_pay3 := rfl
/-- The data tile of column block 6 is computed as the first one. -/
theorem pay9_eq : @k0_pay9 Ideal _ = k0_pay3 := rfl
/-- The data tile of column block 7 is computed as the first one. -/
theorem pay10_eq : @k0_pay10 Ideal _ = k0_pay3 := rfl
/-- The data tile of column block 8 is computed as the first one. -/
theorem pay11_eq : @k0_pay11 Ideal _ = k0_pay3 := rfl
/-- The data tile of column block 9 is computed as the first one. -/
theorem pay12_eq : @k0_pay12 Ideal _ = k0_pay3 := rfl
/-- The data tile of column block 10 is computed as the first one. -/
theorem pay13_eq : @k0_pay13 Ideal _ = k0_pay3 := rfl
/-- The data tile of column block 11 is computed as the first one. -/
theorem pay14_eq : @k0_pay14 Ideal _ = k0_pay3 := rfl

/-- The weight tile of column block 0 is computed as the first data tile. -/
theorem pay15_eq : @k0_pay15 Ideal _ = k0_pay3 := by
  funext x s i
  idx_vars i
  pointwise [k0_pay3, k0_pay15]
/-- The weight tile of column block 1 is computed as the first data tile. -/
theorem pay16_eq : @k0_pay16 Ideal _ = k0_pay3 := (rfl : @k0_pay16 Ideal _ = k0_pay15).trans pay15_eq
/-- The weight tile of column block 3 is computed as the first data tile. -/
theorem pay19_eq : @k0_pay19 Ideal _ = k0_pay3 := (rfl : @k0_pay19 Ideal _ = k0_pay15).trans pay15_eq
/-- The weight tile of column block 4 is computed as the first data tile. -/
theorem pay20_eq : @k0_pay20 Ideal _ = k0_pay3 := (rfl : @k0_pay20 Ideal _ = k0_pay15).trans pay15_eq
/-- The weight tile of column block 6 is computed as the first data tile. -/
theorem pay23_eq : @k0_pay23 Ideal _ = k0_pay3 := (rfl : @k0_pay23 Ideal _ = k0_pay15).trans pay15_eq
/-- The weight tile of column block 7 is computed as the first data tile. -/
theorem pay24_eq : @k0_pay24 Ideal _ = k0_pay3 := (rfl : @k0_pay24 Ideal _ = k0_pay15).trans pay15_eq
/-- The weight tile of column block 8 is computed as the first data tile. -/
theorem pay25_eq : @k0_pay25 Ideal _ = k0_pay3 := (rfl : @k0_pay25 Ideal _ = k0_pay15).trans pay15_eq
/-- The weight tile of column block 9 is computed as the first data tile. -/
theorem pay26_eq : @k0_pay26 Ideal _ = k0_pay3 := (rfl : @k0_pay26 Ideal _ = k0_pay15).trans pay15_eq
/-- The weight tile of column block 10 is computed as the first data tile. -/
theorem pay27_eq : @k0_pay27 Ideal _ = k0_pay3 := (rfl : @k0_pay27 Ideal _ = k0_pay15).trans pay15_eq
/-- The weight tile of column block 11 is computed as the first data tile. -/
theorem pay28_eq : @k0_pay28 Ideal _ = k0_pay3 := (rfl : @k0_pay28 Ideal _ = k0_pay15).trans pay15_eq
/-- The weight tile of column block 2 is computed as the first data tile. -/
theorem pay17_18_eq (x : Vec Ideal S512x1024 .i8) (s : Vec Ideal S16x1024 .bf16) : k0_pay18 (F := Ideal) (k0_pay17 x s) = k0_pay3 x s :=
  (rfl : k0_pay18 (F := Ideal) (k0_pay17 x s) = k0_pay15 x s).trans (congrFun (congrFun pay15_eq x) s)
/-- The weight tile of column block 5 is computed as the first data tile. -/
theorem pay21_22_eq (x : Vec Ideal S512x1024 .i8) (s : Vec Ideal S16x1024 .bf16) : k0_pay22 (F := Ideal) (k0_pay21 x s) = k0_pay3 x s :=
  (rfl : k0_pay22 (F := Ideal) (k0_pay21 x s) = k0_pay15 x s).trans (congrFun (congrFun pay15_eq x) s)

/-- The lane numbers of a 16 × 128 register. -/
def lanes : IVec S16x128 32 := iota Kind.tc S16x128 32 [1] iota_S16x128_d1_w32

/-- Whether a scale group's greatest magnitude is zero, at every entry of a block: the kernel's lane-exchange chain over
    the column maxima of the product of the two dequantized blocks. -/
def zeroK (xd wd : Vec Ideal S512x12288 .bf16) : IVec S16x512 1 :=
  k0_pay44 (F := Ideal) lanes (k0_pay35 lanes (k0_pay31 xd wd) k0_pay32 k0_pay33 k0_pay34)
    (k0_pay38 lanes (k0_pay36 (k0_pay30 xd wd) lanes) (k0_pay37 lanes))
    (k0_pay40 lanes (k0_pay39 (k0_pay30 xd wd) lanes)) (k0_pay41 (k0_pay30 xd wd) lanes) (k0_pay42 lanes)

/-- A scale group's greatest magnitude over 127, at every entry of a block: the same chain. -/
def quotK (xd wd : Vec Ideal S512x12288 .bf16) : FVec Ideal S16x512 .f32 :=
  k0_pay45 (F := Ideal) lanes (k0_pay35 lanes (k0_pay31 xd wd) k0_pay32 k0_pay33 k0_pay34)
    (k0_pay38 lanes (k0_pay36 (k0_pay30 xd wd) lanes) (k0_pay37 lanes))
    (k0_pay40 lanes (k0_pay39 (k0_pay30 xd wd) lanes)) (k0_pay41 (k0_pay30 xd wd) lanes) (k0_pay42 lanes)

/-- The scales block the kernel stores from the two dequantized blocks. -/
def scaleK (xd wd : Vec Ideal S512x12288 .bf16) : Vec Ideal S16x512 .f32 := k0_pay1 (F := Ideal) (zeroK xd wd) (quotK xd wd)

/-- The block of codes the kernel stores from the two dequantized blocks. -/
def codesK (xd wd : Vec Ideal S512x12288 .bf16) : Vec Ideal S512x512 .i8 :=
  k0_pay2 (F := Ideal) (k0_pay29 xd wd) (zeroK xd wd) (quotK xd wd)

variable (m : (ℓ : Loc nD τ sig) → Buf (Elt Ideal) ℓ)

/-- The first point of a token block leaves the dequantized token block in the carried scratch. -/
theorem scratch_A (c : Dev nD) (t : Fin cfg0.N) (h0 : t.val % 6 = 0) :
   (outsAt0 m c t.val t.isLt).2.2 = deq (iblk m c 0 t) (iblk m c 1 t) := by
  rw [outsAt0_A m c t h0]
  frame_out
  simp only [pay4_eq, pay5_eq, pay6_eq, pay7_eq, pay8_eq, pay9_eq, pay10_eq, pay11_eq, pay12_eq, pay13_eq, pay14_eq]
  exact canon_deq _ _ _ ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩ (by sl_kernel_rfl)

/-- A later point of a token block leaves the carried scratch as the point before left it. -/
theorem scratch_B (c : Dev nD) (t : Fin cfg0.N) (h0 : ¬ t.val % 6 = 0) :
   (outsAt0 m c t.val t.isLt).2.2 = (outsAt0 m c (t.val - 1) (lt_of_le_of_lt (Nat.sub_le _ _) t.isLt)).2.2 := by
  rw [outsAt0_B m c t h0]
  rfl

/-- The codes block of a token block's first point, from the token block dequantized at that point. -/
theorem codes_A (c : Dev nD) (t : Fin cfg0.N) (h0 : t.val % 6 = 0) :
    (outsAt0 m c t.val t.isLt).1 = codesK (deq (iblk m c 0 t) (iblk m c 1 t)) (deq (iblk m c 2 t) (iblk m c 3 t)) := by
  rw [outsAt0_A m c t h0]
  frame_out
  simp only [pay4_eq, pay5_eq, pay6_eq, pay7_eq, pay8_eq, pay9_eq, pay10_eq, pay11_eq, pay12_eq, pay13_eq, pay14_eq, pay15_eq, pay16_eq, pay17_18_eq,
    pay19_eq, pay20_eq, pay21_22_eq, pay23_eq, pay24_eq, pay25_eq, pay26_eq, pay27_eq, pay28_eq]
  rw [readCov_deq (iblk m c 0 t) (iblk m c 1 t) (View.whole cc0_scratch0)]
  rw [readCov_deq (iblk m c 2 t) (iblk m c 3 t) (View.whole cc0_scratch1)]
  · rfl
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hc => sl_kernel_rfl
  case hc => sl_kernel_rfl

/-- The scales block of a token block's first point, from the token block dequantized at that point. -/
theorem scales_A (c : Dev nD) (t : Fin cfg0.N) (h0 : t.val % 6 = 0) :
    (outsAt0 m c t.val t.isLt).2.1 = scaleK (deq (iblk m c 0 t) (iblk m c 1 t)) (deq (iblk m c 2 t) (iblk m c 3 t)) := by
  rw [outsAt0_A m c t h0]
  frame_out
  simp only [pay4_eq, pay5_eq, pay6_eq, pay7_eq, pay8_eq, pay9_eq, pay10_eq, pay11_eq, pay12_eq, pay13_eq, pay14_eq, pay15_eq, pay16_eq, pay17_18_eq,
    pay19_eq, pay20_eq, pay21_22_eq, pay23_eq, pay24_eq, pay25_eq, pay26_eq, pay27_eq, pay28_eq]
  rw [readCov_deq (iblk m c 0 t) (iblk m c 1 t) (View.whole cc0_scratch0)]
  rw [readCov_deq (iblk m c 2 t) (iblk m c 3 t) (View.whole cc0_scratch1)]
  · rfl
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hc => sl_kernel_rfl
  case hc => sl_kernel_rfl

/-- The codes block of a token block's later point, from the scratch the point before left. -/
theorem codes_B (c : Dev nD) (t : Fin cfg0.N) (h0 : ¬ t.val % 6 = 0) :
    (outsAt0 m c t.val t.isLt).1 = codesK ((outsAt0 m c (t.val - 1) (lt_of_le_of_lt (Nat.sub_le _ _) t.isLt)).2.2) (deq (iblk m c 2 t) (iblk m c 3 t)) := by
  rw [outsAt0_B m c t h0]
  frame_out
  simp only [pay15_eq, pay16_eq, pay17_18_eq,
    pay19_eq, pay20_eq, pay21_22_eq, pay23_eq, pay24_eq, pay25_eq, pay26_eq, pay27_eq, pay28_eq]
  rw [readCov_deq (iblk m c 2 t) (iblk m c 3 t) (View.whole cc0_scratch1)]
  · simp only [read_unread_whole]
    rfl
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hc => sl_kernel_rfl

/-- The scales block of a token block's later point, from the scratch the point before left. -/
theorem scales_B (c : Dev nD) (t : Fin cfg0.N) (h0 : ¬ t.val % 6 = 0) :
    (outsAt0 m c t.val t.isLt).2.1 = scaleK ((outsAt0 m c (t.val - 1) (lt_of_le_of_lt (Nat.sub_le _ _) t.isLt)).2.2) (deq (iblk m c 2 t) (iblk m c 3 t)) := by
  rw [outsAt0_B m c t h0]
  frame_out
  simp only [pay15_eq, pay16_eq, pay17_18_eq,
    pay19_eq, pay20_eq, pay21_22_eq, pay23_eq, pay24_eq, pay25_eq, pay26_eq, pay27_eq, pay28_eq]
  rw [readCov_deq (iblk m c 2 t) (iblk m c 3 t) (View.whole cc0_scratch1)]
  · simp only [read_unread_whole]
    rfl
  case hL => exact ⟨tile_at _ _ 11264 _ _, tile_at _ _ 10240 _ _, tile_at _ _ 9216 _ _, tile_at _ _ 8192 _ _,
    tile_at _ _ 7168 _ _, tile_at _ _ 6144 _ _, tile_at _ _ 5120 _ _, tile_at _ _ 4096 _ _, tile_at _ _ 3072 _ _,
    tile_at _ _ 2048 _ _, tile_at _ _ 1024 _ _, tile_at _ _ 0 _ _⟩
  case hc => sl_kernel_rfl

/-- The token blocks (values and scales) of two points of one token block are the same. -/
theorem iblk_prev (c : Dev nD) (t t' : Fin cfg0.N) (h : t'.val / 6 = t.val / 6) :
    deq (iblk m c 0 t') (iblk m c 1 t') = deq (iblk m c 0 t) (iblk m c 1 t) := by
  have hi0 : ∀ t : Fin cfg0.N, win0_0.index t = ![t.val / 6, 0] := (by decide +kernel : ∀ t : Fin grid0.N, _)
  have hi1 : ∀ t : Fin cfg0.N, win0_1.index t = ![t.val / 6, 0] := (by decide +kernel : ∀ t : Fin grid0.N, _)
  have e0 : iblk m c 0 t' = iblk m c 0 t := by
    funext y
    blk_ext [iblk, hi0 t, hi0 t', h]
  have e1 : iblk m c 1 t' = iblk m c 1 t := by
    funext y
    blk_ext [iblk, hi1 t, hi1 t', h]
  rw [e0, e1]

/-- After every point the carried scratch is the dequantized token block of that point. -/
theorem scratch (c : Dev nD) : ∀ (n : ℕ) (hn : n < cfg0.N),
    (outsAt0 m c n hn).2.2 = deq (iblk m c 0 ⟨n, hn⟩) (iblk m c 1 ⟨n, hn⟩) := by
  intro n
  induction n using Nat.strong_induction_on with
  | _ n ih =>
    intro hn
    by_cases h0 : n % 6 = 0
    · exact scratch_A m c ⟨n, hn⟩ h0
    · refine (scratch_B m c ⟨n, hn⟩ h0).trans ((ih (n - 1) (by omega) (by omega)).trans ?_)
      exact iblk_prev m c ⟨n, hn⟩ ⟨n - 1, by omega⟩ (show (n - 1) / 6 = n / 6 by omega)

/-- The codes block of every point, from that point's own four blocks. -/
theorem codes_at (c : Dev nD) (t : Fin cfg0.N) :
    (outsAt0 m c t.val t.isLt).1 = codesK (deq (iblk m c 0 t) (iblk m c 1 t)) (deq (iblk m c 2 t) (iblk m c 3 t)) := by
  by_cases h0 : t.val % 6 = 0
  · exact codes_A m c t h0
  · rw [codes_B m c t h0, scratch m c (t.val - 1) _, iblk_prev m c t ⟨t.val - 1, by omega⟩ (by show (t.val - 1) / 6 = _; omega)]

/-- The scales block of every point, from that point's own four blocks. -/
theorem scales_at (c : Dev nD) (t : Fin cfg0.N) :
    (outsAt0 m c t.val t.isLt).2.1 = scaleK (deq (iblk m c 0 t) (iblk m c 1 t)) (deq (iblk m c 2 t) (iblk m c 3 t)) := by
  by_cases h0 : t.val % 6 = 0
  · exact scales_A m c t h0
  · rw [scales_B m c t h0, scratch m c (t.val - 1) _, iblk_prev m c t ⟨t.val - 1, by omega⟩ (by show (t.val - 1) / 6 = _; omega)]

end Cert.KernelIdeal.Val

end
-- ==== Proof.Chain.lean ====
module

public import proofs.«01_k».proof.Proof.PointValue
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal Cert.KernelIdeal.Gen

/-- The source lane of a lane exchange at distance `d`, as the kernel computes it: the lane number with the bit `d`
    flipped (128 added were it negative), through a trailing unit axis and back. -/
def partner (d : BitVec 32) : IVec S16x128 32 :=
  shapeCast S16x128 (shapeCast S16x128x1
    (select (cmpi .slt (xori lanes (broadcast S16x128 d)) (broadcast S16x128 0#32))
      (addi (xori lanes (broadcast S16x128 d)) (broadcast S16x128 128#32)) (xori lanes (broadcast S16x128 d)))
    shapeCasts_S16x128_S16x128x1) shapeCasts_S16x128x1_S16x128

/-- One step of the chain: the greater of each lane and its partner lane. -/
def step (d : BitVec 32) (p : FVec Ideal S16x128 .f32) : FVec Ideal S16x128 .f32 := maximumf p (dynamicGather 1 p (partner d))

/-- The whole chain on one 16 × 128 register: distances 1, 2, 4, 8, 16. -/
def chain (p : FVec Ideal S16x128 .f32) : FVec Ideal S16x128 .f32 := step 16#32 (step 8#32 (step 4#32 (step 2#32 (step 1#32 p))))

/-- The scale groups' greatest magnitudes: the chain on each of the four 128-lane quarters of the column maxima. -/
def gmaxK (v : FVec Ideal S16x512 .f32) : FVec Ideal S16x512 .f32 :=
  concatenate S16x512 1 [⟨S16x128, chain (extractStridedSlice S16x128 ![0, 0] v slices_S16x512_o0_0_S16x128)⟩,
    ⟨S16x128, chain (extractStridedSlice S16x128 ![0, 128] v slices_S16x512_o0_128_S16x128)⟩,
    ⟨S16x128, chain (extractStridedSlice S16x128 ![0, 256] v slices_S16x512_o0_256_S16x128)⟩,
    ⟨S16x128, chain (extractStridedSlice S16x128 ![0, 384] v slices_S16x512_o0_384_S16x128)⟩]
    concatenates_S16x128_S16x128_S16x128_S16x128_S16x512_d1

/-- The kernel's zero test is made on `gmaxK` of the column maxima. -/
theorem zeroK_eq (xd wd : Vec Ideal S512x12288 .bf16) :
    zeroK xd wd = cmpf .oeq (gmaxK (k0_pay30 (F := Ideal) xd wd)) (broadcast S16x512 (Scalar.ofBits (F := Ideal) .f32 0x00000000#32)) := rfl

/-- The kernel's quotient by 127 is of `gmaxK` of the column maxima. -/
theorem quotK_eq (xd wd : Vec Ideal S512x12288 .bf16) :
    quotK xd wd = divf (gmaxK (k0_pay30 (F := Ideal) xd wd)) (broadcast S16x512 (Scalar.ofBits (F := Ideal) .f32 0x42FE0000#32)) := rfl

/-- The partner lane of `l` at distance `d`, a lane number again. -/
def flip (d : ℕ) (l : Fin 128) : Fin 128 := ⟨(l.val ^^^ d) % 128, Nat.mod_lt _ (by decide)⟩

/-- What the chain needs of a distance `d`: the kernel's word arithmetic for the partner lane flips the bit, and the partner
    lane's block of `d` lanes is the other half of the block of `2 d` lanes around the lane. -/
def Exchange (d : ℕ) : Prop :=
  (∀ l : Fin 128, (Scalar.select (IntOp.cmpi .slt (IntOp.xori (BitVec.ofNat 32 l.val) (BitVec.ofNat 32 d)) 0#32)
      (IntOp.addi (IntOp.xori (BitVec.ofNat 32 l.val) (BitVec.ofNat 32 d)) 128#32)
      (IntOp.xori (BitVec.ofNat 32 l.val) (BitVec.ofNat 32 d))).toNat % 128 = (l.val ^^^ d) % 128)
  ∧ ∀ l : Fin 128, (flip d l).val / d = if l.val / d % 2 = 0 then l.val / d + 1 else l.val / d - 1

instance (d : ℕ) : Decidable (Exchange d) := inferInstanceAs (Decidable (_ ∧ _))

/-- A step at an index. -/
theorem step_at (d : ℕ) (hd : Exchange d) (p : FVec Ideal S16x128 .f32) (g : Fin 16) (l : Fin 128) :
    step (BitVec.ofNat 32 d) p (ix2 g l) = max (p (ix2 g l)) (p (ix2 g (flip d l))) := by
  have h := hd.1 l
  unfold step partner lanes flip
  pointwise
  exact congrArg (fun k => max (p (ix2 g l)) (p (ix2 g k))) (Fin.ext h)

/-- A step doubles the block of lanes whose greatest value every lane holds. -/
theorem step_le (d : ℕ) (hd : Exchange d) (p q : FVec Ideal S16x128 .f32) (g : Fin 16) (a : EReal)
    (h : ∀ l : Fin 128, q (ix2 g l) ≤ a ↔ ∀ k : Fin 128, k.val / d = l.val / d → p (ix2 g k) ≤ a) (l : Fin 128) :
    step (BitVec.ofNat 32 d) q (ix2 g l) ≤ a ↔ ∀ k : Fin 128, k.val / (2 * d) = l.val / (2 * d) → p (ix2 g k) ≤ a := by
  rw [step_at d hd]
  refine max_le_iff.trans ?_
  rw [h, h]
  have hx (k : Fin 128) : k.val / (2 * d) = l.val / (2 * d) ↔ (k.val / d = l.val / d ∨ k.val / d = (flip d l).val / d) := by
    rw [hd.2 l, Nat.mul_comm 2 d, ← Nat.div_div_eq_div_mul, ← Nat.div_div_eq_div_mul]
    generalize k.val / d = x
    generalize l.val / d = y
    split <;> omega
  constructor
  · intro hk k e
    rcases (hx k).mp e with e | e
    · exact hk.1 k e
    · exact hk.2 k e
  · intro hk
    exact ⟨fun k e => hk k ((hx k).mpr (.inl e)), fun k e => hk k ((hx k).mpr (.inr e))⟩

/-- The chain leaves in every lane the greatest value of the 32 lanes of its scale group. -/
theorem chain_le (p : FVec Ideal S16x128 .f32) (g : Fin 16) (a : EReal) (l : Fin 128) :
    chain p (ix2 g l) ≤ a ↔ ∀ k : Fin 128, k.val / 32 = l.val / 32 → p (ix2 g k) ≤ a := by
  refine step_le 16 (by decide +kernel) p _ g a (step_le 8 (by decide +kernel) p _ g a (step_le 4 (by decide +kernel) p _ g a
    (step_le 2 (by decide +kernel) p _ g a (step_le 1 (by decide +kernel) p p g a fun l => ?_)))) l
  constructor
  · intro h k e
    have : k = l := Fin.ext (by simpa using e)
    rw [this]; exact h
  · intro h; exact h l rfl

/-- The scale groups' greatest magnitudes, by their upper bounds: the entry of column `n` is at most `a` exactly when
    every column maximum of the 32 columns around `n` is. -/
theorem gmaxK_le (v : FVec Ideal S16x512 .f32) (g : Fin 16) (n : Fin 512) (a : EReal) :
    gmaxK v (ix2 g n) ≤ a ↔ ∀ k : Fin 512, k.val / 32 = n.val / 32 → v (ix2 g k) ≤ a := by
  have s (o : ℕ) (ho : o % 32 = 0) (ho' : o + 128 ≤ 512) (h : S16x512.Slices ![0, o] S16x128) (l : Fin 128) (e : n.val = o + l.val) :
      chain (extractStridedSlice S16x128 ![0, o] v h) (ix2 g l) ≤ a ↔ ∀ k : Fin 512, k.val / 32 = n.val / 32 → v (ix2 g k) ≤ a := by
    rw [chain_le]
    have hr (k : Fin 128) : extractStridedSlice S16x128 ![0, o] v h (ix2 g k) = v (ix2 g ⟨o + k.val, by omega⟩) := by pointwise
    constructor
    · intro hk k e'
      have := hk ⟨k.val - o, by omega⟩ (by show (k.val - o) / 32 = _; omega)
      rw [hr] at this
      rwa [show (⟨o + (k.val - o), by omega⟩ : Fin 512) = k from Fin.ext (by show o + (k.val - o) = _; omega)] at this
    · intro hk k e'
      rw [hr]
      exact hk _ (by show (o + k.val) / 32 = _; omega)
  unfold gmaxK
  pointwise
  split
  · exact s 0 (by decide) (by decide) _ _ (by show n.val = 0 + n.val; omega)
  split
  · exact s 128 (by decide) (by decide) _ _ (by show _ = 128 + (n.val - 128); omega)
  split
  · exact s 256 (by decide) (by decide) _ _ (by show _ = 256 + (n.val - 128 - 128); omega)
  · exact s 384 (by decide) (by decide) _ _ (by show _ = 384 + (n.val - 128 - 128 - 128); omega)

end Cert.KernelIdeal.Val

end
-- ==== Proof.Block.lean ====
module

public import proofs.«01_k».proof.Proof.Chain
public import proofs.«01_k».proof.Proof.Quant
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal Cert.KernelIdeal.Gen

/-- An entry of the product of two dequantized blocks, the second transposed. -/
def blkProd (xd wd : Vec Ideal S512x12288 .bf16) (r n : Fin 512) : EReal := ∑ k : Fin 12288, xd (ix2 r k) * wd (ix2 n k)

variable (xd wd : Vec Ideal S512x12288 .bf16)

/-- The block product, its rows in groups of 32. -/
theorem pay29_at (g : Fin 16) (q : Fin 32) (n : Fin 512) :
    k0_pay29 (F := Ideal) xd wd (ix3 g q n) = blkProd xd wd ⟨g.val * 32 + q.val, by omega⟩ n := by
  pointwise [k0_pay29, blkProd]

/-- The column maxima of a group of 32 rows. -/
theorem pay30_at (g : Fin 16) (n : Fin 512) :
    k0_pay30 (F := Ideal) xd wd (ix2 g n) = Finset.fold max (Ideal.ofBits .f32 0xFF800000#32)
      (fun q : Fin 32 => FloatOps.absf (F := Ideal) (φ := .f32) (blkProd xd wd ⟨g.val * 32 + q.val, by omega⟩ n)) Finset.univ := by
  pointwise [k0_pay30, pay29_at]

/-- The scales block at an index: the scale of its group's greatest magnitude. -/
theorem scaleK_at (g : Fin 16) (n : Fin 512) :
    scaleK xd wd (ix2 g n) = Quant.scaleOf (gmaxK (k0_pay30 (F := Ideal) xd wd) (ix2 g n)) := by
  unfold scaleK
  rw [zeroK_eq, quotK_eq]
  generalize gmaxK (k0_pay30 (F := Ideal) xd wd) = a
  pointwise [k0_pay1, Quant.scaleOf]

/-- The codes block at an index: the code of the product at the scale of its group. -/
theorem codesK_at (r n : Fin 512) :
    codesK xd wd (ix2 r n) = Quant.codeOf (blkProd xd wd r n) (scaleK xd wd (ix2 ⟨r.val / 32, by omega⟩ n)) := by
  have h : blkProd xd wd r n = k0_pay29 (F := Ideal) xd wd (ix3 ⟨r.val / 32, by omega⟩ ⟨r.val % 32, by omega⟩ n) := by
    rw [pay29_at]
    exact congrArg (fun r => blkProd xd wd r n) (Fin.ext (by show r.val = r.val / 32 * 32 + r.val % 32; omega))
  rw [h]
  unfold codesK scaleK
  generalize k0_pay29 (F := Ideal) xd wd = y
  generalize zeroK xd wd = z
  generalize quotK xd wd = a
  pointwise [k0_pay2, k0_pay1, Quant.codeOf]

variable (x : Quant.XCodes) (sx : Quant.XScales) (w : Quant.WCodes) (sw : Quant.WScales)

/-- Blocks whose product is the block `(i, j)` of the layer's product have the tile maxima of the layer. -/
theorem gmax_at (i : Fin 32) (j : Fin 6)
    (h : ∀ r n : Fin 512, blkProd xd wd r n = Quant.prod x sx w sw ⟨i.val * 512 + r.val, by omega⟩ ⟨j.val * 512 + n.val, by omega⟩)
    (g : Fin 16) (n : Fin 512) :
    gmaxK (k0_pay30 (F := Ideal) xd wd) (ix2 g n)
      = Quant.tileMax x sx w sw ⟨i.val * 16 + g.val, by omega⟩ ⟨j.val * 16 + n.val / 32, by omega⟩ := by
  refine eq_of_forall_ge_iff fun a => ?_
  rw [gmaxK_le, Quant.tileMax_le]
  simp only [pay30_at, Finset.fold_max_le, Finset.mem_univ, true_implies, h]
  have hr (q : Fin 32) : (⟨i.val * 512 + (g.val * 32 + q.val), by omega⟩ : Fin 16384) = ⟨(i.val * 16 + g.val) * 32 + q.val, by omega⟩ :=
    Fin.ext (by show i.val * 512 + (g.val * 32 + q.val) = (i.val * 16 + g.val) * 32 + q.val; omega)
  constructor
  · intro hk
    refine ⟨(hk n rfl).1, fun p q => ?_⟩
    have := (hk ⟨n.val / 32 * 32 + p.val, by omega⟩ (by show (n.val / 32 * 32 + p.val) / 32 = n.val / 32; omega)).2 q
    rw [hr] at this
    have hc : (⟨j.val * 512 + (n.val / 32 * 32 + p.val), by omega⟩ : Fin 3072) = ⟨(j.val * 16 + n.val / 32) * 32 + p.val, by omega⟩ :=
      Fin.ext (by show j.val * 512 + (n.val / 32 * 32 + p.val) = (j.val * 16 + n.val / 32) * 32 + p.val; omega)
    rwa [hc] at this
  · intro hk k e
    refine ⟨hk.1, fun q => ?_⟩
    have := hk.2 ⟨k.val % 32, by omega⟩ q
    rw [hr]
    have hc : (⟨j.val * 512 + k.val, by omega⟩ : Fin 3072) = ⟨(j.val * 16 + n.val / 32) * 32 + k.val % 32, by omega⟩ :=
      Fin.ext (by show j.val * 512 + k.val = (j.val * 16 + n.val / 32) * 32 + k.val % 32; omega)
    rwa [hc]

/-- Such blocks give the layer's scales. -/
theorem scaleK_layer (i : Fin 32) (j : Fin 6)
    (h : ∀ r n : Fin 512, blkProd xd wd r n = Quant.prod x sx w sw ⟨i.val * 512 + r.val, by omega⟩ ⟨j.val * 512 + n.val, by omega⟩)
    (g : Fin 16) (n : Fin 512) :
    scaleK xd wd (ix2 g n) = Quant.outScale x sx w sw ⟨i.val * 16 + g.val, by omega⟩ ⟨j.val * 16 + n.val / 32, by omega⟩ := by
  rw [scaleK_at, gmax_at xd wd x sx w sw i j h]
  rfl

/-- Such blocks give the layer's codes. -/
theorem codesK_layer (i : Fin 32) (j : Fin 6)
    (h : ∀ r n : Fin 512, blkProd xd wd r n = Quant.prod x sx w sw ⟨i.val * 512 + r.val, by omega⟩ ⟨j.val * 512 + n.val, by omega⟩)
    (r n : Fin 512) :
    codesK xd wd (ix2 r n) = Quant.outCode x sx w sw ⟨i.val * 512 + r.val, by omega⟩ ⟨j.val * 512 + n.val, by omega⟩ := by
  rw [codesK_at, scaleK_layer xd wd x sx w sw i j h, h]
  unfold Quant.outCode
  exact congrArg₂ (fun G N => Quant.codeOf _ (Quant.outScale x sx w sw G N))
    (Fin.ext (by show i.val * 16 + r.val / 32 = (i.val * 512 + r.val) / 32; omega))
    (Fin.ext (by show j.val * 16 + n.val / 32 = (j.val * 512 + n.val) / 32; omega))

end Cert.KernelIdeal.Val

end
-- ==== Proof.Arrays.lean ====
module

public import proofs.«01_k».proof.Proof.Block
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The activations' codes as launched. -/
abbrev argX : Quant.XCodes := m ((c : Thread nD τ).loc main_arg0)
/-- The activations' scales as launched. -/
abbrev argXS : Quant.XScales := m ((c : Thread nD τ).loc main_arg1)
/-- The weights' codes as launched. -/
abbrev argW : Quant.WCodes := m ((c : Thread nD τ).loc main_arg2)
/-- The weights' scales as launched. -/
abbrev argWS : Quant.WScales := m ((c : Thread nD τ).loc main_arg3)

/-- The codes array the region reads: the activations' codes without the batch axis. -/
theorem V_x : V m c main_v7 = shapeCast S16384x12288 (argX m c) shapeCasts_S1x16384x12288_S16384x12288 := by
  show StableHlo.after hostOps0 _ _ = _
  after_results
  rfl

/-- The scales array the region reads: the activations' scales, each repeated over its 32 columns. -/
theorem V_xs : V m c main_v3 = shapeCast S512x12288 (shapeCast S1x512x12288 (broadcastInDim S1x512x384x32 ![0, 1, 2] bcast_S1x512x384_S1x512x384x32_0_1_2
    (truncf .bf16 (argXS m c) bitsLt_bf16_f32 : FVec Ideal S1x512x384 .bf16)) shapeCasts_S1x512x384x32_S1x512x12288) shapeCasts_S1x512x12288_S512x12288 := by
  unfold_abbrev_sides
  after_results
  rfl

/-- The weights' scales, each repeated over its 32 columns. -/
theorem V_ws : V m c main_v6 = shapeCast S96x12288 (broadcastInDim S96x384x32 ![0, 1] bcast_S96x384_S96x384x32_0_1
    (truncf .bf16 (argWS m c) bitsLt_bf16_f32 : FVec Ideal S96x384 .bf16)) shapeCasts_S96x384x32_S96x12288 := by
  unfold_abbrev_sides
  after_results
  rfl

/-- The region's codes array at an index. -/
theorem V_x_at (R : Fin 16384) (k : Fin 12288) : (V m c main_v7 : Vec Ideal S16384x12288 .i8) (ix2 R k) = argX m c (ix3 0 R k) := by
  rw [V_x]
  generalize argX m c = x
  pointwise

/-- The region's activation scales at an index: the scale of the row group and the column's group. -/
theorem V_xs_at (G : Fin 512) (k : Fin 12288) : (V m c main_v3 : Vec Ideal S512x12288 .bf16) (ix2 G k) = argXS m c (ix3 0 G ⟨k.val / 32, by omega⟩) := by
  rw [V_xs]
  generalize argXS m c = x
  pointwise

/-- The region's weight scales at an index: the scale of the row group and the column's group. -/
theorem V_ws_at (N : Fin 96) (k : Fin 12288) : (V m c main_v6 : Vec Ideal S96x12288 .bf16) (ix2 N k) = argWS m c (ix2 N ⟨k.val / 32, by omega⟩) := by
  rw [V_ws]
  generalize argWS m c = x
  pointwise

/-- The activations' block of a point: row block `t / 6`. -/
theorem index0 : ∀ t : Fin cfg0.N, win0_0.index t = ![t.val / 6, 0] := (by decide +kernel : ∀ t : Fin grid0.N, _)
/-- The activations' scale block of a point: row block `t / 6`. -/
theorem index1 : ∀ t : Fin cfg0.N, win0_1.index t = ![t.val / 6, 0] := (by decide +kernel : ∀ t : Fin grid0.N, _)
/-- The weights' block of a point: row block `t % 6`. -/
theorem index2 : ∀ t : Fin cfg0.N, win0_2.index t = ![t.val % 6, 0] := (by decide +kernel : ∀ t : Fin grid0.N, _)
/-- The weights' scale block of a point: row block `t % 6`. -/
theorem index3 : ∀ t : Fin cfg0.N, win0_3.index t = ![t.val % 6, 0] := (by decide +kernel : ∀ t : Fin grid0.N, _)
/-- The codes' block of a point: row block `t / 6`, column block `t % 6`. -/
theorem index4 : ∀ t : Fin cfg0.N, win0_4.index t = ![t.val / 6, t.val % 6] := (by decide +kernel : ∀ t : Fin grid0.N, _)
/-- The scales' block of a point: row block `t / 6`, column block `t % 6`. -/
theorem index5 : ∀ t : Fin cfg0.N, win0_5.index t = ![t.val / 6, t.val % 6] := (by decide +kernel : ∀ t : Fin grid0.N, _)

/-- There are 32 row blocks. -/
theorem div_lt (t : Fin cfg0.N) : t.val / 6 < 32 := by
  have : t.val < 192 := lt_of_lt_of_eq t.isLt (show cfg0.N = 192 from N_0)
  omega

/-- The activations' codes in a point's block. -/
theorem iblk0_at (t : Fin cfg0.N) (r : Fin 512) (k : Fin 12288) :
    (iblk m c 0 t : Vec Ideal S512x12288 .i8) (ix2 r k) = argX m c (ix3 0 ⟨t.val / 6 * 512 + r.val, by have := div_lt t; omega⟩ k) := by
  rw [← V_x_at]
  show V m c main_v7 (((cfg0.win 0).blk t).view.emb (ix2 r k)) = _
  refine congrArg (V m c main_v7) (funext fun a => Fin.ext ?_)
  have h := index0 t
  match a with
  | ⟨0, _⟩ => show win0_0.index t (0 : Fin 2) * 512 + 1 * r.val = t.val / 6 * 512 + r.val; rw [h]; show t.val / 6 * 512 + 1 * r.val = _; omega
  | ⟨1, _⟩ => show win0_0.index t (1 : Fin 2) * 12288 + 1 * k.val = k.val; rw [h]; show 0 * 12288 + 1 * k.val = _; omega

/-- The activations' scales in a point's block. -/
theorem iblk1_at (t : Fin cfg0.N) (g : Fin 16) (k : Fin 12288) :
    (iblk m c 1 t : Vec Ideal S16x12288 .bf16) (ix2 g k) = argXS m c (ix3 0 ⟨t.val / 6 * 16 + g.val, by have := div_lt t; omega⟩ ⟨k.val / 32, by omega⟩) := by
  rw [← V_xs_at]
  show V m c main_v3 (((cfg0.win 1).blk t).view.emb (ix2 g k)) = _
  refine congrArg (V m c main_v3) (funext fun a => Fin.ext ?_)
  have h := index1 t
  match a with
  | ⟨0, _⟩ => show win0_1.index t (0 : Fin 2) * 16 + 1 * g.val = t.val / 6 * 16 + g.val; rw [h]; show t.val / 6 * 16 + 1 * g.val = _; omega
  | ⟨1, _⟩ => show win0_1.index t (1 : Fin 2) * 12288 + 1 * k.val = k.val; rw [h]; show 0 * 12288 + 1 * k.val = _; omega

/-- The weights' codes in a point's block. -/
theorem iblk2_at (t : Fin cfg0.N) (n : Fin 512) (k : Fin 12288) :
    (iblk m c 2 t : Vec Ideal S512x12288 .i8) (ix2 n k) = argW m c (ix2 ⟨t.val % 6 * 512 + n.val, by omega⟩ k) := by
  show V m c main_arg2 (((cfg0.win 2).blk t).view.emb (ix2 n k)) = _
  rw [V_main_arg2]
  refine congrArg (argW m c) (funext fun a => Fin.ext ?_)
  have h := index2 t
  match a with
  | ⟨0, _⟩ => show win0_2.index t (0 : Fin 2) * 512 + 1 * n.val = t.val % 6 * 512 + n.val; rw [h]; show t.val % 6 * 512 + 1 * n.val = _; omega
  | ⟨1, _⟩ => show win0_2.index t (1 : Fin 2) * 12288 + 1 * k.val = k.val; rw [h]; show 0 * 12288 + 1 * k.val = _; omega

/-- The weights' scales in a point's block. -/
theorem iblk3_at (t : Fin cfg0.N) (g : Fin 16) (k : Fin 12288) :
    (iblk m c 3 t : Vec Ideal S16x12288 .bf16) (ix2 g k) = argWS m c (ix2 ⟨t.val % 6 * 16 + g.val, by omega⟩ ⟨k.val / 32, by omega⟩) := by
  rw [← V_ws_at]
  show V m c main_v6 (((cfg0.win 3).blk t).view.emb (ix2 g k)) = _
  refine congrArg (V m c main_v6) (funext fun a => Fin.ext ?_)
  have h := index3 t
  match a with
  | ⟨0, _⟩ => show win0_3.index t (0 : Fin 2) * 16 + 1 * g.val = t.val % 6 * 16 + g.val; rw [h]; show t.val % 6 * 16 + 1 * g.val = _; omega
  | ⟨1, _⟩ => show win0_3.index t (1 : Fin 2) * 12288 + 1 * k.val = k.val; rw [h]; show 0 * 12288 + 1 * k.val = _; omega

/-- The product of a point's dequantized blocks is its block of the layer's product. -/
theorem blkProd_at (t : Fin cfg0.N) (r n : Fin 512) :
    blkProd (deq (iblk m c 0 t) (iblk m c 1 t)) (deq (iblk m c 2 t) (iblk m c 3 t)) r n
      = Quant.prod (argX m c) (argXS m c) (argW m c) (argWS m c) ⟨t.val / 6 * 512 + r.val, by have := div_lt t; omega⟩ ⟨t.val % 6 * 512 + n.val, by omega⟩ := by
  refine Finset.sum_congr rfl fun k _ => ?_
  have hx : deq (iblk m c 0 t) (iblk m c 1 t) (ix2 r k) = Quant.xDeq (argX m c) (argXS m c) ⟨t.val / 6 * 512 + r.val, by have := div_lt t; omega⟩ k := by
    refine congrArg₂ (fun a b : EReal => a * b) (congrArg (FloatOps.sitofp (F := Ideal) .bf16) (iblk0_at m c t r k))
      ((iblk1_at m c t ⟨r.val / 32, by omega⟩ k).trans ?_)
    exact congrArg (fun G => argXS m c (ix3 0 G ⟨k.val / 32, by omega⟩)) (Fin.ext (by show t.val / 6 * 16 + r.val / 32 = (t.val / 6 * 512 + r.val) / 32; omega))
  have hw : deq (iblk m c 2 t) (iblk m c 3 t) (ix2 n k) = Quant.wDeq (argW m c) (argWS m c) ⟨t.val % 6 * 512 + n.val, by omega⟩ k := by
    refine congrArg₂ (fun a b : EReal => a * b) (congrArg (FloatOps.sitofp (F := Ideal) .bf16) (iblk2_at m c t n k))
      ((iblk3_at m c t ⟨n.val / 32, by omega⟩ k).trans ?_)
    exact congrArg (fun G => argWS m c (ix2 G ⟨k.val / 32, by omega⟩)) (Fin.ext (by show t.val % 6 * 16 + n.val / 32 = (t.val % 6 * 512 + n.val) / 32; omega))
  exact congrArg₂ (fun a b : EReal => a * b) hx hw

/-- What the codes array ends holding. -/
def codesArr : Vec Ideal S16384x3072 .i8 := fun i => Quant.outCode (argX m c) (argXS m c) (argW m c) (argWS m c) (i 0) (i 1)

/-- What the scales array ends holding: each tile's scale in all of its 32 columns. -/
def scalesArr : Vec Ideal S512x3072 .f32 := fun i =>
  Quant.outScale (argX m c) (argXS m c) (argW m c) (argWS m c) (i 0) ⟨(i 1).val / 32, by have : (i 1).val < 3072 := (i 1).isLt; omega⟩

/-- The codes array after the run. -/
theorem final4 : (dats m 0 c).arrAt 4 cfg0.N = codesArr m c := by
  refine (dats m 0 c).arrAt_eq_of_covers 4 _ (by decide +kernel) fun t hf y => ?_
  blk_simp
  rw [after0_4, codes_at]
  have h := index4 t
  have h0 : (win0_4.blk t).view.emb y = ix2 ⟨t.val / 6 * 512 + (y 0).val, by have := div_lt t; have : (y 0).val < 512 := (y 0).isLt; omega⟩ ⟨t.val % 6 * 512 + (y 1).val, by have : (y 1).val < 512 := (y 1).isLt; omega⟩ := by
    refine funext fun a => Fin.ext ?_
    match a with
    | ⟨0, _⟩ => show win0_4.index t (0 : Fin 2) * 512 + 1 * (y 0).val = t.val / 6 * 512 + (y 0).val; rw [h]; show t.val / 6 * 512 + 1 * (y 0).val = _; omega
    | ⟨1, _⟩ => show win0_4.index t (1 : Fin 2) * 512 + 1 * (y 1).val = t.val % 6 * 512 + (y 1).val; rw [h]; show t.val % 6 * 512 + 1 * (y 1).val = _; omega
  rw [h0]
  have e := codesK_layer (deq (iblk m c 0 t) (iblk m c 1 t)) (deq (iblk m c 2 t) (iblk m c 3 t)) (argX m c) (argXS m c) (argW m c) (argWS m c)
    ⟨t.val / 6, div_lt t⟩ ⟨t.val % 6, Nat.mod_lt _ (by decide)⟩ (blkProd_at m c t) (y 0) (y 1)
  exact (congrArg _ (eq_ix2 y)).trans e

/-- The scales array after the run. -/
theorem final5 : (dats m 0 c).arrAt 5 cfg0.N = scalesArr m c := by
  refine (dats m 0 c).arrAt_eq_of_covers 5 _ (by decide +kernel) fun t hf y => ?_
  blk_simp
  rw [after0_5, scales_at]
  have h := index5 t
  have hy : (y 1).val < 512 := (y 1).isLt
  have h0 : (win0_5.blk t).view.emb y = ix2 ⟨t.val / 6 * 16 + (y 0).val, by have := div_lt t; have : (y 0).val < 16 := (y 0).isLt; omega⟩ ⟨t.val % 6 * 512 + (y 1).val, by omega⟩ := by
    refine funext fun a => Fin.ext ?_
    match a with
    | ⟨0, _⟩ => show win0_5.index t (0 : Fin 2) * 16 + 1 * (y 0).val = t.val / 6 * 16 + (y 0).val; rw [h]; show t.val / 6 * 16 + 1 * (y 0).val = _; omega
    | ⟨1, _⟩ => show win0_5.index t (1 : Fin 2) * 512 + 1 * (y 1).val = t.val % 6 * 512 + (y 1).val; rw [h]; show t.val % 6 * 512 + 1 * (y 1).val = _; omega
  rw [h0]
  have e := scaleK_layer (deq (iblk m c 0 t) (iblk m c 1 t)) (deq (iblk m c 2 t) (iblk m c 3 t)) (argX m c) (argXS m c) (argW m c) (argWS m c)
    ⟨t.val / 6, div_lt t⟩ ⟨t.val % 6, Nat.mod_lt _ (by decide)⟩ (blkProd_at m c t) (y 0) (y 1)
  refine ((congrArg _ (eq_ix2 y)).trans e).trans ?_
  exact congrArg (Quant.outScale (argX m c) (argXS m c) (argW m c) (argWS m c) ⟨t.val / 6 * 16 + (y 0).val, _⟩)
    (Fin.ext (by show t.val % 6 * 16 + (y 1).val / 32 = (t.val % 6 * 512 + (y 1).val) / 32; omega))

end Cert.KernelIdeal.Val

end
-- ==== Proof.Results.lean ====
module

public import proofs.«01_k».proof.Proof.Arrays

@[expose] public section

set_option maxRecDepth 16384

noncomputable section

namespace Cert.KernelIdeal.Val

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The first result: every output code of the layer. -/
def result0 : Vec Ideal S1x16384x3072 .i8 := fun i => Quant.outCode (argX m c) (argXS m c) (argW m c) (argWS m c) (i 1) (i 2)

/-- The second result: every output tile's scale. -/
def result1 : Vec Ideal S1x512x96 .f32 := fun i => Quant.outScale (argX m c) (argXS m c) (argW m c) (argWS m c) (i 1) (i 2)

/-- Adding the batch axis to the codes array gives the first result. -/
theorem codes_reshape : shapeCast S1x16384x3072 (codesArr m c) shapeCasts_S16384x3072_S1x16384x3072 = result0 m c := by
  have gen : ∀ v : Vec Ideal S16384x3072 .i8, ∀ (R : Fin 16384) (C : Fin 3072),
      shapeCast S1x16384x3072 v shapeCasts_S16384x3072_S1x16384x3072 (ix3 0 R C) = v (ix2 R C) := by
    intro v R C
    pointwise
  funext i
  have h0 : i = ix3 0 (i 1) (i 2) := (eq_ix3 i).trans (congrArg (fun z => ix3 z (i 1) (i 2)) (Fin.ext (Nat.lt_one_iff.mp (i 0).isLt)))
  rw [h0]
  exact gen _ _ _

/-- The scales array at every 32nd column, with the batch axis added, is the second result. -/
theorem scales_slice : shapeCast S1x512x96 (Host.slice S512x96 ![0, 0] ![1, 32] (scalesArr m c) slicesBy_S512x3072_S512x96_0s1_0s32) shapeCasts_S512x96_S1x512x96 = result1 m c := by
  have gen : ∀ v : Vec Ideal S512x3072 .f32, ∀ (G : Fin 512) (N : Fin 96),
      shapeCast S1x512x96 (Host.slice S512x96 ![0, 0] ![1, 32] v slicesBy_S512x3072_S512x96_0s1_0s32) shapeCasts_S512x96_S1x512x96 (ix3 0 G N)
        = v (ix2 G ⟨32 * N.val, by omega⟩) := by
    intro v G N
    pointwise
  funext i
  have h0 : i = ix3 0 (i 1) (i 2) := (eq_ix3 i).trans (congrArg (fun z => ix3 z (i 1) (i 2)) (Fin.ext (Nat.lt_one_iff.mp (i 0).isLt)))
  rw [h0]
  refine (gen _ _ _).trans ?_
  exact congrArg (Quant.outScale (argX m c) (argXS m c) (argW m c) (argWS m c) (i 1)) (Fin.ext (by show 32 * (i 2).val / 32 = (i 2).val; omega))

/-- The lines after the region find the region's arrays as the run left them. -/
theorem tail_array (w : Fin 6) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c _ _ w

/-- The first result buffer after the lines that follow the region. -/
theorem tail_v9 : Pipeline.afterTail₀ cfgs (dats m) 0 (V0 m) [hostOps1] c main_v9 = result0 m c := by
  refine Eq.trans ?_ (codes_reshape m c)
  rw [← final4]
  show StableHlo.after hostOps1 _ _ = _
  after_results
  exact congrArg (fun v : Vec Ideal S16384x3072 .i8 => shapeCast S1x16384x3072 v shapeCasts_S16384x3072_S1x16384x3072) (tail_array m c 4)

/-- The second result buffer after the lines that follow the region. -/
theorem tail_v11 : Pipeline.afterTail₀ cfgs (dats m) 0 (V0 m) [hostOps1] c main_v11 = result1 m c := by
  refine Eq.trans ?_ (scales_slice m c)
  rw [← final5]
  show StableHlo.after hostOps1 _ _ = _
  after_results
  exact congrArg (fun v : Vec Ideal S512x3072 .f32 =>
    shapeCast S1x512x96 (Host.slice S512x96 ![0, 0] ![1, 32] v slicesBy_S512x3072_S512x96_0s1_0s32) shapeCasts_S512x96_S1x512x96) (tail_array m c 5)

/-- The kernel's run: both results at the layer's values, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v9) = result0 m c
      ∧ r.2.mem ((c.tc : Thread nD τ).loc main_v11) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_v9 m c),
      ((h c).2 main_v11 (Pipeline.mem_restRefs_of main_v11 (by decide) (by decide))).trans (tail_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩) (run_main m ρ)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RefValue
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem Cert.Kernel

/-- The reference's codes are the layer's. -/
theorem ref_codes (x : Quant.XCodes) (sx : Quant.XScales) (w : Quant.WCodes) (sw : Quant.WScales) :
    Cert.ReferenceIdeal.Value.G4 (F := Ideal) x sx w sw = fun i => Quant.outCode x sx w sw (i 1) (i 2) := by
  funext i
  have h0 : i = ix3 0 (i 1) (i 2) := (eq_ix3 i).trans (congrArg (fun z => ix3 z (i 1) (i 2)) (Fin.ext (Nat.lt_one_iff.mp (i 0).isLt)))
  rw [h0]
  exact Cert.ReferenceIdeal.Val.code_at x sx w sw (i 1) (i 2)

/-- The reference's scales are the layer's. -/
theorem ref_scales (x : Quant.XCodes) (sx : Quant.XScales) (w : Quant.WCodes) (sw : Quant.WScales) :
    Cert.ReferenceIdeal.Value.G5 (F := Ideal) x sx w sw = fun i => Quant.outScale x sx w sw (i 1) (i 2) := by
  funext i
  have h0 : i = ix3 0 (i 1) (i 2) := (eq_ix3 i).trans (congrArg (fun z => ix3 z (i 1) (i 2)) (Fin.ext (Nat.lt_one_iff.mp (i 0).isLt)))
  rw [h0]
  exact Cert.ReferenceIdeal.Val.scale_at x sx w sw (i 1) (i 2)

/-- From equal arguments the ideal kernel and the reference end with equal codes and equal scales. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Val.result0 m c, fun c => Cert.KernelIdeal.Val.result1 m c, Cert.KernelIdeal.Val.run m g, ?_⟩
  refine (θ_run _ _ _).mono (fun r h c => ?_) (Cert.ReferenceIdeal.Value.run m' g')
  obtain ⟨h0, h1, hrest⟩ := h c
  obtain ⟨e0, e1, e2, e3⟩ := hargs c
  refine ⟨h0.trans ?_, h1.trans ?_, hrest⟩
  · rw [ref_codes, e0, e1, e2, e3]
    rfl
  · rw [ref_scales, e0, e1, e2, e3]
    rfl

/-- The three frames, the idealization, and the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
